-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S5000 : Shape := ⟨1, ![5000]⟩
abbrev S5000x1 : Shape := ⟨2, ![5000, 1]⟩
abbrev S5000x128 : Shape := ⟨2, ![5000, 128]⟩
abbrev S1000x128 : Shape := ⟨2, ![1000, 128]⟩
abbrev S1000x1 : Shape := ⟨2, ![1000, 1]⟩

abbrev nBuf : Space → Nat
  | .hbm => 95
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S10000, .i32⟩
  | .hbm, ⟨9, _⟩ => ⟨S330000, .i32⟩
  | .hbm, ⟨10, _⟩ => ⟨S330000, .i32⟩
  | .hbm, ⟨11, _⟩ => ⟨S_, .f32⟩
  | .hbm, ⟨12, _⟩ => ⟨S10000, .f32⟩
  | .hbm, ⟨13, _⟩ => ⟨S_, .i32⟩
  | .hbm, ⟨14, _⟩ => ⟨S330000, .i32⟩
  | .hbm, ⟨15, _⟩ => ⟨S330000, .i1⟩
  | .hbm, ⟨16, _⟩ => ⟨S_, .i32⟩
  | .hbm, ⟨17, _⟩ => ⟨S330000, .i32⟩
  | .hbm, ⟨18, _⟩ => ⟨S330000, .i32⟩
  | .hbm, ⟨19, _⟩ => ⟨S330000, .i32⟩
  | .hbm, ⟨20, _⟩ => ⟨S330000x1, .i32⟩
  | .hbm, ⟨21, _⟩ => ⟨S_, .f32⟩
  | .hbm, ⟨22, _⟩ => ⟨S330000, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S_, .i32⟩
  | .hbm, ⟨35, _⟩ => ⟨S330000, .i32⟩
  | .hbm, ⟨36, _⟩ => ⟨S330000, .i1⟩
  | .hbm, ⟨37, _⟩ => ⟨S_, .i32⟩
  | .hbm, ⟨38, _⟩ => ⟨S330000, .i32⟩
  | .hbm, ⟨39, _⟩ => ⟨S330000, .i32⟩
  | .hbm, ⟨40, _⟩ => ⟨S330000, .i32⟩
  | .hbm, ⟨41, _⟩ => ⟨S330000x1, .i32⟩
  | .hbm, ⟨42, _⟩ => ⟨S330000, .f32⟩
  | .hbm, ⟨43, _⟩ => ⟨S_, .i32⟩
  | .hbm, ⟨44, _⟩ => ⟨S330000, .i32⟩
  | .hbm, ⟨45, _⟩ => ⟨S330000, .i1⟩
  | .hbm, ⟨46, _⟩ => ⟨S_, .i32⟩
  | .hbm, ⟨47, _⟩ => ⟨S330000, .i32⟩
  | .hbm, ⟨48, _⟩ => ⟨S330000, .i32⟩
  | .hbm, ⟨49, _⟩ => ⟨S330000, .i32⟩
  | .hbm, ⟨50, _⟩ => ⟨S330000x1, .i32⟩
  | .hbm, ⟨51, _⟩ => ⟨S330000, .f32⟩
  | .hbm, ⟨52, _⟩ => ⟨S330000, .f32⟩
  | .hbm, ⟨53, _⟩ => ⟨S10000x128, .f32⟩
  | .hbm, ⟨54, _⟩ => ⟨S_, .i32⟩
  | .hbm, ⟨55, _⟩ => ⟨S330000, .i32⟩
  | .hbm, ⟨56, _⟩ => ⟨S330000, .i1⟩
  | .hbm, ⟨57, _⟩ => ⟨S_, .i32⟩
  | .hbm, ⟨58, _⟩ => ⟨S330000, .i32⟩
  | .hbm, ⟨59, _⟩ => ⟨S330000, .i32⟩
  | .hbm, ⟨60, _⟩ => ⟨S330000, .i32⟩
  | .hbm, ⟨61, _⟩ => ⟨S330000x1, .i32⟩
  | .hbm, ⟨62, _⟩ => ⟨S330000x128, .f32⟩
  | .hbm, ⟨63, _⟩ => ⟨S330000x1, .f32⟩
  | .hbm, ⟨64, _⟩ => ⟨S330000x128, .f32⟩
  | .hbm, ⟨65, _⟩ => ⟨S330000x128, .f32⟩
  | .hbm, ⟨66, _⟩ => ⟨S_, .f32⟩
  | .hbm, ⟨67, _⟩ => ⟨S10000x128, .f32⟩
  | .hbm, ⟨68, _⟩ => ⟨S_, .i32⟩
  | .hbm, ⟨69, _⟩ => ⟨S330000, .i32⟩
  | .hbm, ⟨70, _⟩ => ⟨S330000, .i1⟩
  | .hbm, ⟨71, _⟩ => ⟨S_, .i32⟩
  | .hbm, ⟨72, _⟩ => ⟨S330000, .i32⟩
  | .hbm, ⟨73, _⟩ => ⟨S330000, .i32⟩
  | .hbm, ⟨74, _⟩ => ⟨S330000, .i32⟩
  | .hbm, ⟨75, _⟩ => ⟨S330000x1, .i32⟩
  | .hbm, ⟨76, _⟩ => ⟨S10000x128, .f32⟩
  | .hbm, ⟨77, _⟩ => ⟨S1x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000, .f32⟩
  | .hbm, ⟨82, _⟩ => ⟨S5000, .f32⟩
  | .hbm, ⟨83, _⟩ => ⟨S5000, .i32⟩
  | .hbm, ⟨84, _⟩ => ⟨S_, .i32⟩
  | .hbm, ⟨85, _⟩ => ⟨S5000, .i32⟩
  | .hbm, ⟨86, _⟩ => ⟨S5000, .i1⟩
  | .hbm, ⟨87, _⟩ => ⟨S_, .i32⟩
  | .hbm, ⟨88, _⟩ => ⟨S5000, .i32⟩
  | .hbm, ⟨89, _⟩ => ⟨S5000, .i32⟩
  | .hbm, ⟨90, _⟩ => ⟨S5000, .i32⟩
  | .hbm, ⟨91, _⟩ => ⟨S5000x1, .i32⟩
  | .hbm, ⟨92, _⟩ => ⟨S5000x128, .f32⟩
  | .hbm, ⟨93, _⟩ => ⟨S5000x1, .f32⟩
  | .hbm, ⟨94, _⟩ => ⟨S5000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_values : Ref sig .tc := ⟨.hbm, 82, rfl⟩
abbrev main_indices : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_c_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S5000 : Shape := ⟨1, ![5000]⟩
abbrev S5000x1 : Shape := ⟨2, ![5000, 1]⟩
abbrev S5000x128 : Shape := ⟨2, ![5000, 128]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S10000, .i32⟩
  | .hbm, ⟨9, _⟩ => ⟨S330000, .i32⟩
  | .hbm, ⟨10, _⟩ => ⟨S330000, .i32⟩
  | .hbm, ⟨11, _⟩ => ⟨S_, .f32⟩
  | .hbm, ⟨12, _⟩ => ⟨S10000, .f32⟩
  | .hbm, ⟨13, _⟩ => ⟨S_, .i32⟩
  | .hbm, ⟨14, _⟩ => ⟨S330000, .i32⟩
  | .hbm, ⟨15, _⟩ => ⟨S330000, .i1⟩
  | .hbm, ⟨16, _⟩ => ⟨S_, .i32⟩
  | .hbm, ⟨17, _⟩ => ⟨S330000, .i32⟩
  | .hbm, ⟨18, _⟩ => ⟨S330000, .i32⟩
  | .hbm, ⟨19, _⟩ => ⟨S330000, .i32⟩
  | .hbm, ⟨20, _⟩ => ⟨S330000x1, .i32⟩
  | .hbm, ⟨21, _⟩ => ⟨S_, .f32⟩
  | .hbm, ⟨22, _⟩ => ⟨S330000, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S_, .i32⟩
  | .hbm, ⟨35, _⟩ => ⟨S330000, .i32⟩
  | .hbm, ⟨36, _⟩ => ⟨S330000, .i1⟩
  | .hbm, ⟨37, _⟩ => ⟨S_, .i32⟩
  | .hbm, ⟨38, _⟩ => ⟨S330000, .i32⟩
  | .hbm, ⟨39, _⟩ => ⟨S330000, .i32⟩
  | .hbm, ⟨40, _⟩ => ⟨S330000, .i32⟩
  | .hbm, ⟨41, _⟩ => ⟨S330000x1, .i32⟩
  | .hbm, ⟨42, _⟩ => ⟨S330000, .f32⟩
  | .hbm, ⟨43, _⟩ => ⟨S_, .i32⟩
  | .hbm, ⟨44, _⟩ => ⟨S330000, .i32⟩
  | .hbm, ⟨45, _⟩ => ⟨S330000, .i1⟩
  | .hbm, ⟨46, _⟩ => ⟨S_, .i32⟩
  | .hbm, ⟨47, _⟩ => ⟨S330000, .i32⟩
  | .hbm, ⟨48, _⟩ => ⟨S330000, .i32⟩
  | .hbm, ⟨49, _⟩ => ⟨S330000, .i32⟩
  | .hbm, ⟨50, _⟩ => ⟨S330000x1, .i32⟩
  | .hbm, ⟨51, _⟩ => ⟨S330000, .f32⟩
  | .hbm, ⟨52, _⟩ => ⟨S330000, .f32⟩
  | .hbm, ⟨53, _⟩ => ⟨S10000x128, .f32⟩
  | .hbm, ⟨54, _⟩ => ⟨S_, .i32⟩
  | .hbm, ⟨55, _⟩ => ⟨S330000, .i32⟩
  | .hbm, ⟨56, _⟩ => ⟨S330000, .i1⟩
  | .hbm, ⟨57, _⟩ => ⟨S_, .i32⟩
  | .hbm, ⟨58, _⟩ => ⟨S330000, .i32⟩
  | .hbm, ⟨59, _⟩ => ⟨S330000, .i32⟩
  | .hbm, ⟨60, _⟩ => ⟨S330000, .i32⟩
  | .hbm, ⟨61, _⟩ => ⟨S330000x1, .i32⟩
  | .hbm, ⟨62, _⟩ => ⟨S330000x128, .f32⟩
  | .hbm, ⟨63, _⟩ => ⟨S330000x1, .f32⟩
  | .hbm, ⟨64, _⟩ => ⟨S330000x128, .f32⟩
  | .hbm, ⟨65, _⟩ => ⟨S330000x128, .f32⟩
  | .hbm, ⟨66, _⟩ => ⟨S_, .f32⟩
  | .hbm, ⟨67, _⟩ => ⟨S10000x128, .f32⟩
  | .hbm, ⟨68, _⟩ => ⟨S_, .i32⟩
  | .hbm, ⟨69, _⟩ => ⟨S330000, .i32⟩
  | .hbm, ⟨70, _⟩ => ⟨S330000, .i1⟩
  | .hbm, ⟨71, _⟩ => ⟨S_, .i32⟩
  | .hbm, ⟨72, _⟩ => ⟨S330000, .i32⟩
  | .hbm, ⟨73, _⟩ => ⟨S330000, .i32⟩
  | .hbm, ⟨74, _⟩ => ⟨S330000, .i32⟩
  | .hbm, ⟨75, _⟩ => ⟨S330000x1, .i32⟩
  | .hbm, ⟨76, _⟩ => ⟨S10000x128, .f32⟩
  | .hbm, ⟨77, _⟩ => ⟨S1x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000, .f32⟩
  | .hbm, ⟨82, _⟩ => ⟨S5000, .f32⟩
  | .hbm, ⟨83, _⟩ => ⟨S5000, .i32⟩
  | .hbm, ⟨84, _⟩ => ⟨S_, .i32⟩
  | .hbm, ⟨85, _⟩ => ⟨S5000, .i32⟩
  | .hbm, ⟨86, _⟩ => ⟨S5000, .i1⟩
  | .hbm, ⟨87, _⟩ => ⟨S_, .i32⟩
  | .hbm, ⟨88, _⟩ => ⟨S5000, .i32⟩
  | .hbm, ⟨89, _⟩ => ⟨S5000, .i32⟩
  | .hbm, ⟨90, _⟩ => ⟨S5000, .i32⟩
  | .hbm, ⟨91, _⟩ => ⟨S5000x1, .i32⟩
  | .hbm, ⟨92, _⟩ => ⟨S5000x128, .f32⟩
  | .hbm, ⟨93, _⟩ => ⟨S5000, .f32⟩
  | .hbm, ⟨94, _⟩ => ⟨S5000, .f32⟩
  | .hbm, ⟨95, _⟩ => ⟨S_, .f32⟩
  | .hbm, ⟨96, _⟩ => ⟨S5000, .f32⟩
  | .hbm, ⟨97, _⟩ => ⟨S5000, .f32⟩
  | .hbm, ⟨98, _⟩ => ⟨S_, .f32⟩
  | .hbm, ⟨99, _⟩ => ⟨S5000, .f32⟩
  | .hbm, ⟨100, _⟩ => ⟨S5000, .f32⟩
  | .hbm, ⟨101, _⟩ => ⟨S5000x1, .f32⟩
  | .hbm, ⟨102, _⟩ => ⟨S5000x128, .f32⟩
  | .hbm, ⟨103, _⟩ => ⟨S5000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_values : Ref sig .tc := ⟨.hbm, 82, rfl⟩
abbrev main_indices : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_c_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Proof.Stages.lean ====
/-
  THE PROBLEM IN STAGES (hand-written, untrusted): the graph convolution's node scores, the selection of the 5000 best
  nodes and the gate, each stage one definition over plain arrays, for any float values. Nothing here speaks of a program's
  run; RefValue.lean and HostValue.lean show that the reference and the host operations before the kernel's region compute
  these stages, and BlockValue.lean what the region does with them.
-/
module

public import proofs.«01_k».proof.Proof.Gen.ReferenceIdeal

@[expose] public section

noncomputable section

namespace Cert.Pool

open Cert.ReferenceIdeal Cert.ReferenceIdeal.Gen Idealize.ShloMosaic

variable {F : FTy → Type} [FloatOps F]

/-- The source of every edge: row 0 of the edge list, then each node once (its self-loop). -/
def sources (e : IVec S2x320000 32) : IVec S330000 32 :=
  concatenate S330000 0
    [⟨S320000, shapeCast S320000 (extractStridedSlice S1x320000 ![0, 0] e slices_S2x320000_S1x320000_0_0) shapeCasts_S1x320000_S320000⟩,
      ⟨S10000, iotaInDim S10000 32 0⟩] concatenates_S320000_S10000_S330000_d0

/-- The target of every edge: row 1 of the edge list, then each node once. -/
def targets (e : IVec S2x320000 32) : IVec S330000 32 :=
  concatenate S330000 0
    [⟨S320000, shapeCast S320000 (extractStridedSlice S1x320000 ![1, 0] e slices_S2x320000_S1x320000_1_0) shapeCasts_S1x320000_S320000⟩,
      ⟨S10000, iotaInDim S10000 32 0⟩] concatenates_S320000_S10000_S330000_d0

/-- Node numbers as an indexed read takes them: a negative one counts from the end; one column per entry. -/
def edgeIndex (n : IVec S330000 32) : IVec S330000x1 32 :=
  broadcastInDim S330000x1 ![0] bcast_S330000_S330000x1_0
    (select (cmpi .slt n (broadcastInDim S330000 ![] bcast_S_S330000 (constantI S_ 32 0#32)))
      (addi n (broadcastInDim S330000 ![] bcast_S_S330000 (constantI S_ 32 10000#32))) n)

/-- The same for the selected nodes. -/
def pickIndex (n : IVec S5000 32) : IVec S5000x1 32 :=
  broadcastInDim S5000x1 ![0] bcast_S5000_S5000x1_0
    (select (cmpi .slt n (broadcastInDim S5000 ![] bcast_S_S5000 (constantI S_ 32 0#32)))
      (addi n (broadcastInDim S5000 ![] bcast_S_S5000 (constantI S_ 32 10000#32))) n)

/-- A node's degree: the number of edges that end in it, as a sum of ones. -/
def degree (dst : IVec S330000 32) : FVec F S10000 .f32 :=
  Host.scatterAdd scatter_S10000_S330000x1_S330000_n_0_0_1
    (broadcastInDim S10000 ![] bcast_S_S10000 (constant S_ .f32 0x00000000#32)) (edgeIndex dst)
    (broadcastInDim S330000 ![] bcast_S_S330000 (constant S_ .f32 0x3F800000#32))

/-- A degree to the power −1/2, and zero for a node without edges. -/
def invSqrt (deg : FVec F S10000 .f32) : FVec F S10000 .f32 :=
  select (cmpf .ogt deg (broadcastInDim S10000 ![] bcast_S_S10000 (constant S_ .f32 0x00000000#32)))
    (Host.powf deg (broadcastInDim S10000 ![] bcast_S_S10000 (constant S_ .f32 0xBF000000#32)))
    (broadcastInDim S10000 ![] bcast_S_S10000 (constant S_ .f32 0x00000000#32))

/-- An edge's weight: the product of the two `invSqrt` values at its ends. -/
def weight (dinv : FVec F S10000 .f32) (src dst : IVec S330000 32) : FVec F S330000 .f32 :=
  mulf (Host.gather gather_S10000_S330000x1_S330000_n_0_n_n_0_1_1 dinv (edgeIndex src))
    (Host.gather gather_S10000_S330000x1_S330000_n_0_n_n_0_1_1 dinv (edgeIndex dst))

/-- An edge's message: its source's row of `x W`, times the edge's weight. -/
def message (x : FVec F S10000x128 .f32) (W : FVec F S128x128 .f32) (src : IVec S330000 32) (w : FVec F S330000 .f32) :
    FVec F S330000x128 .f32 :=
  mulf (Host.gather gather_S10000x128_S330000x1_S330000x128_1_0_n_n_0_1_1128
      (Host.dotGeneral dot_S10000x128_S128x128_S10000x128_1_0_0_1_n_n none x W) (edgeIndex src))
    (broadcastInDim S330000x128 ![0, 1] bcast_S330000x1_S330000x128_0_1
      (broadcastInDim S330000x1 ![0] bcast_S330000_S330000x1_0 w))

/-- A node's feature after the convolution: the sum of the messages that reach it, plus the bias. -/
def convolved (msg : FVec F S330000x128 .f32) (dst : IVec S330000 32) (b : FVec F S128 .f32) : FVec F S10000x128 .f32 :=
  addf (Host.scatterAdd scatter_S10000x128_S330000x1_S330000x128_1_0_0_1
      (broadcastInDim S10000x128 ![] bcast_S_S10000x128 (constant S_ .f32 0x00000000#32)) (edgeIndex dst) msg)
    (broadcastInDim S10000x128 ![0, 1] bcast_S1x128_S10000x128_0_1 (broadcastInDim S1x128 ![1] bcast_S128_S1x128_1 b))

/-- A node's score: the sum of its convolved features. -/
def score (h : FVec F S10000x128 .f32) : FVec F S10000 .f32 :=
  Host.reduceAdd h (constant S_ .f32 0x00000000#32) reducesTo_S10000x128_S10000_d1 h_S_

/-- The scores of all nodes, from the four arguments. -/
def scores (x : FVec F S10000x128 .f32) (e : IVec S2x320000 32) (W : FVec F S128x128 .f32) (b : FVec F S128 .f32) :
    FVec F S10000 .f32 :=
  score (convolved (message x W (sources e) (weight (invSqrt (degree (targets e))) (sources e) (targets e))) (targets e) b)

/-- The 5000 greatest scores, in descending order. -/
def bestScores (s : FVec F S10000 .f32) : FVec F S5000 .f32 :=
  (Host.topK S5000 0 (FloatOps.cmpfTotal .gt) s sliceFits_S10000_S5000).1

/-- The nodes that have them, in the same order. -/
def bestNodes (s : FVec F S10000 .f32) : IVec S5000 32 :=
  (Host.topK S5000 0 (FloatOps.cmpfTotal .gt) s sliceFits_S10000_S5000).2

/-- The selected nodes' feature rows. -/
def rows (x : FVec F S10000x128 .f32) (s : FVec F S10000 .f32) : FVec F S5000x128 .f32 :=
  Host.gather gather_S10000x128_S5000x1_S5000x128_1_0_n_n_0_1_1128 x (pickIndex (bestNodes s))

/-- The reference's gate, `1 / (1 + exp (−v))`, on the host. -/
def hostGate (v : FVec F S5000 .f32) : FVec F S5000 .f32 :=
  Host.divf (broadcastInDim S5000 ![] bcast_S_S5000 (constant S_ .f32 0x3F800000#32))
    (addf (broadcastInDim S5000 ![] bcast_S_S5000 (constant S_ .f32 0x3F800000#32)) (Host.exp (Host.negf v)))

/-- The result as the reference spells it: each selected row times the gate of its score. -/
def pooled (x : FVec F S10000x128 .f32) (s : FVec F S10000 .f32) : FVec F S5000x128 .f32 :=
  mulf (rows x s) (broadcastInDim S5000x128 ![0, 1] bcast_S5000x1_S5000x128_0_1
    (broadcastInDim S5000x1 ![0] bcast_S5000_S5000x1_0 (hostGate (bestScores s))))

end Cert.Pool

end
-- ==== Proof.RefValue.lean ====
/-
  WHAT THE REFERENCE COMPUTES (hand-written, untrusted): its generated run ends at one composed term of the arguments;
  that term is `Pool.pooled` of the features and of `Pool.scores`.
-/
module

public import proofs.«01_k».proof.Proof.Stages
public import proofs.«01_k».proof.Proof.Gen.ReferenceIdeal.Run

@[expose] public section

noncomputable section

namespace Cert.Pool

open Cert.ReferenceIdeal Idealize.ShloMosaic Idealize.SL.Sem

variable {F : FTy → Type} [FloatOps F]

set_option maxRecDepth 8192 in
/-- The reference's result is the pooled features of its arguments. -/
theorem reference_result (m : (ℓ : Loc nD τ sig) → Buf (Elt F) ℓ) (c : Dev nD) :
    Cert.ReferenceIdeal.Value.res_out0 m c
      = pooled (m ((c.tc : Thread nD τ).loc main_arg0))
          (scores (m ((c.tc : Thread nD τ).loc main_arg0)) (m ((c.tc : Thread nD τ).loc main_arg1))
            (m ((c.tc : Thread nD τ).loc main_arg2)) (m ((c.tc : Thread nD τ).loc main_arg3))) := by
  unfold Cert.ReferenceIdeal.Value.res_out0 Cert.ReferenceIdeal.Value.res_main_v74
  rfl

end Cert.Pool

end
-- ==== Proof.HostValue.lean ====
/-
  WHAT THE KERNEL'S REGION FINDS (hand-written, untrusted): the two arrays that the region reads, after the 90 host
  operations before it. The operations are cut after the seventh: the first seven make the edges' sources and targets, the
  others are read from any contents of the buffers.
-/
module

public import proofs.«01_k».proof.Proof.Stages
public import proofs.«01_k».proof.Proof.Gen.KernelIdeal.Frame
public import Idealize.ShloMosaic.Lib.StableHlo.RunRead

@[expose] public section

noncomputable section

namespace Cert.Pool

open Cert.KernelIdeal Cert.KernelIdeal.Gen Idealize.ShloMosaic Idealize.ShloMosaic.TcCoe Idealize.SL.Sem

variable {F : FTy → Type} [FloatOps F]

/-- The host operations before the region, in order. -/
abbrev hostOps : List (HloOp τ sig (Elt F)) := List.flatten [hostOps0, hostOps0_1, hostOps0_2]

/-- The first seven: the edge list's two rows, each with the self-loops after it. -/
def edgeOps : List (HloOp τ sig (Elt F)) := hostOps.take 7

/-- The others: degrees, weights, messages, scores, the selection. -/
def nodeOps : List (HloOp τ sig (Elt F)) := hostOps.drop 7

/-- The seven, then the others. -/
theorem after_hostOps (V : Valuation τ sig (Elt F)) :
    StableHlo.after hostOps V = StableHlo.after nodeOps (StableHlo.after edgeOps V) := by
  rw [← StableHlo.after_append, edgeOps, nodeOps, List.take_append_drop]

section Edges

variable (V : Valuation τ sig (Elt F))

/-- The seven operations leave the sources … -/
theorem edges_src : StableHlo.after edgeOps V (Proc.devRef .tc main_v5) = sources (V (Proc.devRef .tc main_arg1)) := by
  unfold edgeOps
  simp only [hostOps, hostOps0, List.flatten_cons, List.cons_append, List.take_succ_cons, List.take_zero]
  after_results
  rfl

/-- … and the targets … -/
theorem edges_dst : StableHlo.after edgeOps V (Proc.devRef .tc main_v6) = targets (V (Proc.devRef .tc main_arg1)) := by
  unfold edgeOps
  simp only [hostOps, hostOps0, List.flatten_cons, List.cons_append, List.take_succ_cons, List.take_zero]
  after_results
  rfl

/-- … and the arguments that later operations read as they were. -/
theorem edges_args : StableHlo.after edgeOps V (Proc.devRef .tc main_arg0) = V (Proc.devRef .tc main_arg0)
    ∧ StableHlo.after edgeOps V (Proc.devRef .tc main_arg2) = V (Proc.devRef .tc main_arg2)
    ∧ StableHlo.after edgeOps V (Proc.devRef .tc main_arg3) = V (Proc.devRef .tc main_arg3) := by
  unfold edgeOps
  simp only [hostOps, hostOps0, List.flatten_cons, List.cons_append, List.take_succ_cons, List.take_zero]
  refine ⟨?_, ?_, ?_⟩ <;> after_reads_simp

end Edges

section Nodes

variable (V : Valuation τ sig (Elt F))

/-- The node scores from the buffers' contents before `nodeOps`. -/
abbrev scoresOf : FVec F S10000 .f32 :=
  score (convolved (message (V (Proc.devRef .tc main_arg0)) (V (Proc.devRef .tc main_arg2)) (V (Proc.devRef .tc main_v5))
      (weight (invSqrt (degree (V (Proc.devRef .tc main_v6)))) (V (Proc.devRef .tc main_v5)) (V (Proc.devRef .tc main_v6))))
    (V (Proc.devRef .tc main_v6)) (V (Proc.devRef .tc main_arg3)))

set_option maxRecDepth 8192 in
/-- The other operations leave the selected rows … -/
theorem nodes_rows : StableHlo.after nodeOps V (Proc.devRef .tc main_v65) = rows (V (Proc.devRef .tc main_arg0)) (scoresOf V) := by
  unfold nodeOps
  simp only [hostOps, hostOps0, hostOps0_1, hostOps0_2, List.flatten_cons, List.flatten_nil, List.append_nil,
    List.cons_append, List.nil_append, List.drop_succ_cons, List.drop_zero]
  simp only [StableHlo.TRef.ternary, StableHlo.TRef.unary, StableHlo.TRef.toBuf, StableHlo.TRef.ofBuf, cast_eq]
  after_reads_simp
  rfl

set_option maxRecDepth 8192 in
/-- … and the selected scores, as a column. -/
theorem nodes_scores : StableHlo.after nodeOps V (Proc.devRef .tc main_v66)
    = broadcastInDim S5000x1 ![0] bcast_S5000_S5000x1_0 (bestScores (scoresOf V)) := by
  unfold nodeOps
  simp only [hostOps, hostOps0, hostOps0_1, hostOps0_2, List.flatten_cons, List.flatten_nil, List.append_nil,
    List.cons_append, List.nil_append, List.drop_succ_cons, List.drop_zero]
  simp only [StableHlo.TRef.ternary, StableHlo.TRef.unary, StableHlo.TRef.toBuf, StableHlo.TRef.ofBuf, cast_eq]
  after_reads_simp
  rfl

end Nodes

section Entry

variable (m : (ℓ : Loc nD τ sig) → Buf (Elt F) ℓ) (c : Dev nD)

/-- The scores from the arrays of device `c` as launched. -/
abbrev launchScores : FVec F S10000 .f32 :=
  scores (m ((c.tc : Thread nD τ).loc main_arg0)) (m ((c.tc : Thread nD τ).loc main_arg1))
    (m ((c.tc : Thread nD τ).loc main_arg2)) (m ((c.tc : Thread nD τ).loc main_arg3))

/-- The scores that the node operations compute after the edge operations are the problem's. -/
theorem scoresOf_edges : scoresOf (StableHlo.after edgeOps (fun b => m (c, b))) = launchScores m c := by
  obtain ⟨h0, h2, h3⟩ := edges_args (F := F) (fun b => m (c, b))
  unfold scoresOf launchScores scores
  rw [h0, h2, h3, edges_src, edges_dst]

/-- The region finds the selected rows in its first array … -/
theorem entry_rows : V m c main_v65 = rows (m ((c.tc : Thread nD τ).loc main_arg0)) (launchScores m c) := by
  show StableHlo.after hostOps (fun b => m (c, b)) (Proc.devRef .tc main_v65) = _
  rw [after_hostOps, nodes_rows, scoresOf_edges, (edges_args (F := F) _).1]

/-- … and the selected scores in its second. -/
theorem entry_scores : V m c main_v66 = broadcastInDim S5000x1 ![0] bcast_S5000_S5000x1_0 (bestScores (launchScores m c)) := by
  show StableHlo.after hostOps (fun b => m (c, b)) (Proc.devRef .tc main_v66) = _
  rw [after_hostOps, nodes_scores, scoresOf_edges]

end Entry

end Cert.Pool

end
-- ==== Proof.BlockValue.lean ====
/-
  WHAT THE REGION LEAVES (hand-written, untrusted): grid point `t` writes rows 1000 t … 1000 t + 999 of the result, each
  the row of the first array times the gate of the entry of the second; the five blocks tile the result, which so is one
  function of the two arrays the region finds.
-/
module

public import proofs.«01_k».proof.Proof.Gen.KernelIdeal.Value
public import Idealize.ShloMosaic.Lib.ValueIdxCore

@[expose] public section

noncomputable section

namespace Cert.Pool

open Cert.KernelIdeal Cert.KernelIdeal.Gen Idealize.ShloMosaic Idealize.ShloMosaic.TcCoe Idealize.SL.Sem
open Idealize.ShloMosaic.Pipeline (Dat)
open Idealize.ShloMosaic.ValueIdx (ix2)

variable {F : FTy → Type} [FloatOps F]

/-- The kernel's gate of one score: `1 / (1 + exp (0 − v))`, in the kernel's own operations. -/
def gate (v : F .f32) : F .f32 :=
  FloatOps.divf (Scalar.ofBits .f32 0x3F800000#32)
    (FloatOps.addf (Scalar.ofBits .f32 0x3F800000#32) (FloatOps.exp (FloatOps.subf (Scalar.ofBits .f32 0x00000000#32) v)))

/-- The rows `x`, each times the gate of the entry of `v` beside it. -/
def gated (x : FVec F S5000x128 .f32) (v : FVec F S5000x1 .f32) : FVec F S5000x128 .f32 :=
  fun i => FloatOps.mulf (x i) (gate (v (ix2 (n0 := 5000) (n1 := 1) (i 0) 0)))

variable (m : (ℓ : Loc nD τ sig) → Buf (Elt F) ℓ) (ρ : Dev nD → PrngReg)

/-- Both input windows move with the output: the same block of rows at every grid point. -/
theorem index_facts : ∀ t : Fin cfg0.N, win0_0.index t = win0_2.index t ∧ win0_1.index t 0 = win0_2.index t 0
    ∧ win0_1.index t 1 = 0 ∧ win0_2.index t 0 = t.val ∧ win0_2.index t 1 = 0 :=
  (by decide +kernel : ∀ t : Fin grid0.N, win0_0.index t = win0_2.index t ∧ win0_1.index t 0 = win0_2.index t 0
    ∧ win0_1.index t 1 = 0 ∧ win0_2.index t 0 = t.val ∧ win0_2.index t 1 = 0)

theorem zero2 : (![0, 0] : Fin 2 → Nat) = fun _ => 0 := funext fun a => by fin_cases a <;> rfl

/-- The body, given block `t` of two arrays, leaves block `t` of the gated rows. -/
theorem block_gated (X : FVec F S5000x128 .f32) (Y : FVec F S5000x1 .f32) (t : Fin cfg0.N) :
    (cfg0.win 2).cut (grid0.coords t)
        (out0_2 (((cfg0.win 0).blk t).view.read (Elt F) X) (((cfg0.win 1).blk t).view.read (Elt F) Y))
      = ((cfg0.win 2).blk t).view.read (Elt F) (gated X Y) := by
  unfold out0_2
  rw [View.ld_unit_zero zero2, View.ld_unit_zero zero2]
  funext y
  refine (Value.canon2_eq (((cfg0.win 0).blk t).view.read (Elt F) X) (((cfg0.win 1).blk t).view.read (Elt F) Y) y).trans ?_
  have hy0 : (y 0).val < 1000 := (y 0).isLt
  have hy1 : (y 1).val < 128 := (y 1).isLt
  obtain ⟨e0, e1, e2, -, -⟩ := index_facts t
  have hx : ((cfg0.win 0).blk t).view.emb (Value.ix2_0 y) = ((cfg0.win 2).blk t).view.emb y := by
    funext a; apply Fin.ext
    match a with
    | ⟨0, _⟩ => show win0_0.index t 0 * 1000 + 1 * (y 0).val = win0_2.index t 0 * 1000 + 1 * (y 0).val; rw [e0]
    | ⟨1, _⟩ => show win0_0.index t 1 * 128 + 1 * (y 1).val = win0_2.index t 1 * 128 + 1 * (y 1).val; rw [e0]
  have hv : ((cfg0.win 1).blk t).view.emb (Value.ix2_1 y)
      = ix2 (n0 := 5000) (n1 := 1) ((((cfg0.win 2).blk t).view.emb y) 0) 0 := by
    funext a; apply Fin.ext
    match a with
    | ⟨0, _⟩ => show win0_1.index t 0 * 1000 + 1 * (y 0).val = win0_2.index t 0 * 1000 + 1 * (y 0).val; rw [e1]
    | ⟨1, _⟩ => show win0_1.index t 1 * 1 + 1 * 0 = 0; rw [e2]
  show FloatOps.mulf (X (((cfg0.win 0).blk t).view.emb (Value.ix2_0 y)))
      (gate (Y (((cfg0.win 1).blk t).view.emb (Value.ix2_1 y)))) = gated X Y (((cfg0.win 2).blk t).view.emb y)
  rw [hx, hv]
  rfl

/-- What point `t` writes back is block `t` of the gated rows. -/
theorem flushed_gated (c : Dev nD) (t : Fin cfg0.N) :
    (dats m 0 c).flushed 2 t = ((cfg0.win 2).blk t).view.read (Elt F) (gated (V m c main_v65) (V m c main_v66)) := by
  rw [Value.flushed2]
  exact block_gated (V m c main_v65) (V m c main_v66) t

/-- An index of the result is in point `t`'s block when its row is one of the thousand from `1000 t` on. -/
theorem mem_block (t : Fin cfg0.N) (i : S5000x128.Idx) :
    i ∈ ((cfg0.win 2).blk t).view.set ↔ t.val * 1000 ≤ (i 0).val ∧ (i 0).val < t.val * 1000 + 1000 := by
  obtain ⟨-, -, -, e3, e4⟩ := index_facts t
  have h1 : (i 1).val < 128 := (i 1).isLt
  show i ∈ ((View.whole main_v67).slice (win0_2.rect t)).set ↔ _
  rw [View.set_slice_whole, Rect.mem_set_unit]
  constructor
  · intro h
    have h0 : win0_2.index t 0 * 1000 ≤ (i 0).val ∧ (i 0).val < win0_2.index t 0 * 1000 + 1000 := h 0
    rw [e3] at h0
    exact h0
  · intro h a
    match a with
    | ⟨0, _⟩ =>
      show win0_2.index t 0 * 1000 ≤ (i 0).val ∧ (i 0).val < win0_2.index t 0 * 1000 + 1000
      rw [e3]; exact h
    | ⟨1, _⟩ =>
      show win0_2.index t 1 * 128 ≤ (i 1).val ∧ (i 1).val < win0_2.index t 1 * 128 + 128
      rw [e4]; omega

/-- Every row is in the block of the point that is its number divided by 1000. -/
theorem covered (i : S5000x128.Idx) :
    ∃ t : Fin cfg0.N, (cfg0.win 2).flush t = true ∧ i ∈ ((cfg0.win 2).blk t).view.set := by
  have h0 : (i 0).val < 5000 := (i 0).isLt
  have hN : cfg0.N = 5 := N_0
  refine ⟨⟨(i 0).val / 1000, by omega⟩, flush0_2 _, (mem_block _ i).2 ?_⟩
  dsimp only
  omega

/-- So the result array after the region is the gated rows. -/
theorem region_result (c : Dev nD) : (dats m 0 c).arrAt 2 cfg0.N = gated (V m c main_v65) (V m c main_v66) :=
  (dats m 0 c).arrAt_eq_of_cover 2 _ (fun t _ => flushed_gated m c t) covered

end Cert.Pool

end
-- ==== Proof.Equation.lean ====
/-
  THE TWO SPELLINGS AGREE over the extended reals (hand-written, untrusted): the kernel gates a row with
  `1 / (1 + exp (0 − v))`, the reference with `1 / (1 + exp (−v))`.
-/
module

public import proofs.«01_k».proof.Proof.BlockValue
public import proofs.«01_k».proof.Proof.Stages
public import Idealize.ShloMosaic.PureOps.Ideal.Laws

@[expose] public section

noncomputable section

namespace Cert.Pool

open Cert.ReferenceIdeal Cert.ReferenceIdeal.Gen Idealize.ShloMosaic Idealize.SL.Sem
open Idealize.ShloMosaic.ValueIdx (ix1 ix2)

/-- Over the extended reals the kernel's gate of a score is the reference's: `0 − v = −v`. -/
theorem gate_eq (v : Ideal .f32) :
    gate (F := Ideal) v
      = FloatOps.hostDivf (Scalar.ofBits .f32 0x3F800000#32)
          (FloatOps.addf (Scalar.ofBits .f32 0x3F800000#32) (FloatOps.hostUnary .exp (FloatOps.hostNegf v))) := by
  have h0 : (Scalar.ofBits .f32 0x00000000#32 : Ideal .f32) = 0 := Ideal.ofBits_zero_f32
  unfold gate
  rw [h0]
  simp only [Ideal.divf_def, Ideal.hostDivf_def, Ideal.addf_def, Ideal.subf_def, Ideal.exp_def, Ideal.hostUnary_exp_def,
    Ideal.hostNegf_def, Ideal.negf_def, zero_sub]

/-- A column made of a vector, read in a row: the vector's entry there. -/
theorem column_read (u : FVec Ideal S5000 .f32) (r : Fin 5000) :
    broadcastInDim S5000x1 ![0] bcast_S5000_S5000x1_0 u (ix2 (n0 := 5000) (n1 := 1) r 0) = u (ix1 r) :=
  broadcastInDim_apply _ _ _ _ (ix1 r) fun a => match a with | ⟨0, _⟩ => rfl

/-- A column spread over the lanes, read anywhere in a row: the column's entry there. -/
theorem spread_read (v : FVec Ideal S5000x1 .f32) (i : S5000x128.Idx) :
    broadcastInDim S5000x128 ![0, 1] bcast_S5000x1_S5000x128_0_1 v i = v (ix2 (n0 := 5000) (n1 := 1) (i 0) 0) :=
  broadcastInDim_apply _ _ _ _ (ix2 (n0 := 5000) (n1 := 1) (i 0) 0) fun a => match a with
    | ⟨0, _⟩ => rfl
    | ⟨1, _⟩ => rfl

/-- The reference's gate of a vector, entry by entry, is the kernel's. -/
theorem hostGate_read (u : FVec Ideal S5000 .f32) (j : S5000.Idx) : hostGate u j = gate (F := Ideal) (u j) :=
  (gate_eq (u j)).symm

/-- The rows gated block by block, with the selected scores as a column, are the pooled features. -/
theorem gated_eq_pooled (x : FVec Ideal S10000x128 .f32) (s : FVec Ideal S10000 .f32) :
    gated (F := Ideal) (rows x s) (broadcastInDim S5000x1 ![0] bcast_S5000_S5000x1_0 (bestScores s)) = pooled x s := by
  funext i
  have hk : broadcastInDim S5000x1 ![0] bcast_S5000_S5000x1_0 (bestScores s) (ix2 (n0 := 5000) (n1 := 1) (i 0) 0)
      = bestScores s (ix1 (i 0)) := column_read (bestScores s) (i 0)
  have hr : broadcastInDim S5000x128 ![0, 1] bcast_S5000x1_S5000x128_0_1
        (broadcastInDim S5000x1 ![0] bcast_S5000_S5000x1_0 (hostGate (bestScores s))) i
      = gate (F := Ideal) (bestScores s (ix1 (i 0))) :=
    (spread_read _ i).trans ((column_read (hostGate (bestScores s)) (i 0)).trans (hostGate_read (bestScores s) _))
  exact congrArg (FloatOps.mulf (rows x s i)) ((congrArg gate hk).trans hr.symm)

end Cert.Pool

end
-- ==== Proof.lean ====
/-
  THE FIVE CLAIMS (hand-written, untrusted): the two kernels' frames are the generated ones, the reference's frame comes
  from its generated run, and the equality of the results joins four facts: what the region finds (Proof/HostValue.lean),
  what it leaves (Proof/BlockValue.lean), what the reference computes (Proof/RefValue.lean), and that the two spellings of
  the gate agree over the extended reals (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefValue
public import proofs.«01_k».proof.Proof.HostValue
public import proofs.«01_k».proof.Proof.BlockValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as written terminates without faults, with its arguments unchanged and its semaphores at zero. -/
theorem frame_kernel : Cert.quiescent_Kernel := fun m ρ _ => Cert.Kernel.Gen.frame m ρ

/-- So does the kernel over the extended reals, … -/
theorem frame_ideal : Cert.quiescent_KernelIdeal := fun m ρ _ => Cert.KernelIdeal.Gen.frame m ρ

/-- … and the reference, which has no semaphores at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the array that the kernel's region leaves is the pooled features of the launched arguments. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 2 Cert.KernelIdeal.cfg0.N
      = Cert.Pool.pooled (m ((c.tc : Thread Cert.KernelIdeal.nD Cert.KernelIdeal.τ).loc Cert.KernelIdeal.main_arg0))
          (Cert.Pool.launchScores m c) := by
  rw [Cert.Pool.region_result, Cert.Pool.entry_rows, Cert.Pool.entry_scores]
  exact Cert.Pool.gated_eq_pooled _ _

/-- Kernel and reference, launched at the same arguments, both end with the pooled features in their result. -/
theorem same_result : Cert.algebraic_KernelIdeal_ReferenceIdeal := by
  intro m ρ m' ρ' _ hagree
  refine ⟨fun c => Cert.Pool.pooled
      (m ((c.tc : Thread Cert.KernelIdeal.nD Cert.KernelIdeal.τ).loc Cert.KernelIdeal.main_arg0)) (Cert.Pool.launchScores m c),
    (θ_run Cert.KernelIdeal.defs _ _).mono (fun r h c => ⟨(h c).1.trans (kernel_result m c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨h0, h1, h2, h3⟩ := hagree c
  refine (Cert.Pool.reference_result m' c).trans ?_
  rw [h0, h1, h2, h3]

/-- The five claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
